-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x128 : Shape := ⟨2, ![320000, 128]⟩
abbrev S320000 : Shape := ⟨1, ![320000]⟩
abbrev S16x128 : Shape := ⟨2, ![16, 128]⟩
abbrev S125x1x2560 : Shape := ⟨3, ![125, 1, 2560]⟩
abbrev S256x16 : Shape := ⟨2, ![256, 16]⟩
abbrev S256x128 : Shape := ⟨2, ![256, 128]⟩
abbrev S1x1x2560 : Shape := ⟨3, ![1, 1, 2560]⟩
abbrev S2560x128 : Shape := ⟨2, ![2560, 128]⟩
abbrev S2560 : Shape := ⟨1, ![2560]⟩
abbrev S256x2560 : Shape := ⟨2, ![256, 2560]⟩
abbrev S1x2560 : Shape := ⟨2, ![1, 2560]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S16x128, .f32⟩
  | .hbm, ⟨3, _⟩ => ⟨S125x1x2560, .i32⟩
  | .hbm, ⟨4, _⟩ => ⟨S256x16, .f32⟩
  | .hbm, ⟨5, _⟩ => ⟨S256x128, .f32⟩
  | .local _ .vmem, ⟨0, _⟩ => ⟨S1x1x2560, .i32⟩
  | .local _ .vmem, ⟨1, _⟩ => ⟨S1x1x2560, .i32⟩
  | .local _ .vmem, ⟨2, _⟩ => ⟨S2560x128, .f32⟩
  | .local _ .vmem, ⟨3, _⟩ => ⟨S2560x128, .f32⟩
  | .local _ .vmem, ⟨4, _⟩ => ⟨S16x128, .f32⟩
  | .local _ .vmem, ⟨5, _⟩ => ⟨S256x16, .f32⟩
  | .local _ .vmem, ⟨6, _⟩ => ⟨S256x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![125], ![false]⟩

def k0_cond3 (i : grid0.Coords) : BitVec 1 :=
  let arg0 : BitVec 32 := BitVec.ofNat 32 (i 0).val
  let c124_i32 : BitVec 32 := 124#32
  let v18 : BitVec 1 := Scalar.cmpi .eq arg0 c124_i32
  let v19 : BitVec 32 := Scalar.extui v18
  let c0_i32_7 : BitVec 32 := 0#32
  let v20 : BitVec 1 := Scalar.cmpi .ne v19 c0_i32_7
  v20

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_4 : BitVec 32 := 0#32
  let v14 : BitVec 1 := Scalar.cmpi .ne v13 c0_i32_4
  v14

def k0_cond2 (i : grid0.Coords) : BitVec 1 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .ne v16 c0_i32_6
  v17

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2560 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S320000x128 : Shape := ⟨2, ![320000, 128]⟩
abbrev S320000 : Shape := ⟨1, ![320000]⟩
abbrev S16x128 : Shape := ⟨2, ![16, 128]⟩
abbrev S_ : Shape := ⟨0, ![]⟩
abbrev S256x128 : Shape := ⟨2, ![256, 128]⟩
abbrev S320000x1 : Shape := ⟨2, ![320000, 1]⟩
abbrev S256 : Shape := ⟨1, ![256]⟩
abbrev S256x1 : Shape := ⟨2, ![256, 1]⟩
abbrev S128x16 : Shape := ⟨2, ![128, 16]⟩
abbrev S256x16 : Shape := ⟨2, ![256, 16]⟩

abbrev nBuf : Space → Nat
  | .hbm => 21
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S16x128, .f32⟩
  | .hbm, ⟨3, _⟩ => ⟨S_, .f32⟩
  | .hbm, ⟨4, _⟩ => ⟨S256x128, .f32⟩
  | .hbm, ⟨5, _⟩ => ⟨S320000x1, .i32⟩
  | .hbm, ⟨6, _⟩ => ⟨S256x128, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x128, .f32⟩
  | .hbm, ⟨18, _⟩ => ⟨S256x128, .f32⟩
  | .hbm, ⟨19, _⟩ => ⟨S128x16, .f32⟩
  | .hbm, ⟨20, _⟩ => ⟨S256x16, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.BodyValue.lean ====
/- What the kernel's body leaves in the staging buffers of its results, in each of its three cases: at the first block the
   block's segment sums, at a later one those added to what was there, and at the last one the two finished results. -/
module

public import proofs.«01_k».proof.Proof.Gen.KernelIdeal.Frame
public import Idealize.ShloMosaic.Lib.Pipeline.Value
public import Idealize.ShloMosaic.Lib.Tactic

@[expose] public section

noncomputable section

namespace Cert.BodyValue

open Idealize.ShloMosaic Idealize.ShloMosaic.TcCoe Idealize.SL.Sem
open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

variable (c : Dev nD) (i : grid0.Coords) (a1 : Memref sig .tc .vmem S1x1x2560 .i32) (h1 : a1.IsWhole)
  (a2 : Memref sig .tc .vmem S2560x128 .f32) (h2 : a2.IsWhole) (a3 : Memref sig .tc .vmem S16x128 .f32) (h3 : a3.IsWhole)
  (a4 : Memref sig .tc .vmem S256x16 .f32) (h4 : a4.IsWhole) (a5 : Memref sig .tc .vmem S256x128 .f32) (h5 : a5.IsWhole)
  (x0 : Vec F S1x1x2560 .i32) (x1 : Vec F S2560x128 .f32) (x2 : Vec F S16x128 .f32) (xo : Vec F S256x128 .f32)

/-- The first block: its segment sums. -/
theorem first_sums (hc0 : cond0_0 i) (hc1 : ¬cond0_1 i) (hc2 : ¬cond0_2 i) :
    out0_A_4 c i a1 h1 a2 h2 a3 h3 a4 h4 a5 h5 hc0 hc1 hc2 x0 x1 x2 = k0_pay1 x0 x1 := by
  unfold out0_A_4
  rw [View.read_writes_eq_canon _ _ _ (cover0_A_4 c i a1 h1 a2 h2 a3 h3 a4 h4 a5 h5 hc0 hc1 hc2 x0 x1 x2)]
  unfold kernelRun0_A
  dsimp only
  rw [View.canon_unit_zero off2]
  simp only [View.readAt_eq_ld, h1.read_unread, h2.read_unread, View.ld_unit_zero (S := S1x1x2560) off3,
    View.ld_unit_zero (S := S2560x128) off2]

/-- A later block: its segment sums added to what the buffer held. -/
theorem next_sums (hc0 : ¬cond0_0 i) (hc1 : cond0_1 i) (hc2 : ¬cond0_2 i) :
    out0_B_4 c i a1 h1 a2 h2 a3 h3 a4 h4 a5 h5 hc0 hc1 hc2 x0 x1 x2 xo = k0_pay2 x0 x1 xo := by
  unfold out0_B_4
  rw [View.read_writes_eq_canon _ _ _ (cover0_B_4 c i a1 h1 a2 h2 a3 h3 a4 h4 a5 h5 hc0 hc1 hc2 x0 x1 x2 xo)]
  unfold kernelRun0_B
  dsimp only
  rw [View.canon_unit_zero off2]
  simp only [View.readAt_eq_ld, h1.read_unread, h2.read_unread, h5.read_unread, View.ld_unit_zero (S := S1x1x2560) off3,
    View.ld_unit_zero (S := S2560x128) off2, View.ld_unit_zero (S := S256x128) off2]

/-- The last block: the sums scaled row by row. -/
theorem last_rows (hc0 : ¬cond0_0 i) (hc1 : cond0_1 i) (hc2 : cond0_2 i) :
    out0_C_4 c i a1 h1 a2 h2 a3 h3 a4 h4 a5 h5 hc0 hc1 hc2 x0 x1 x2 xo = k0_pay3 (k0_pay2 x0 x1 xo) := by
  unfold out0_C_4
  rw [View.read_writes_eq_canon _ _ _ (cover0_C_4 c i a1 h1 a2 h2 a3 h3 a4 h4 a5 h5 hc0 hc1 hc2 x0 x1 x2 xo)]
  unfold kernelRun0_C
  dsimp only
  sl_unfold_words
  rw [View.canon_cons_unit_zero (S := S256x128) off2, View.readCov_unit_zero (S := S256x128) _ off2]
  simp only [View.readAt_eq_ld, h1.read_unread, h2.read_unread, h5.read_unread, View.ld_unit_zero (S := S1x1x2560) off3,
    View.ld_unit_zero (S := S2560x128) off2, View.ld_unit_zero (S := S256x128) off2]

/-- The last block: the scaled rows times the weights. -/
theorem last_product (hc0 : ¬cond0_0 i) (hc1 : cond0_1 i) (hc2 : cond0_2 i) :
    out0_C_3 c i a1 h1 a2 h2 a3 h3 a4 h4 a5 h5 hc0 hc1 hc2 x0 x1 x2 xo = k0_pay4 (k0_pay2 x0 x1 xo) x2 := by
  unfold out0_C_3
  rw [View.read_writes_eq_canon _ _ _ (cover0_C_3 c i a1 h1 a2 h2 a3 h3 a4 h4 a5 h5 hc0 hc1 hc2 x0 x1 x2 xo)]
  unfold kernelRun0_C
  dsimp only
  sl_unfold_words
  rw [View.canon_unit_zero off2, View.readCov_unit_zero (S := S256x128) _ off2]
  simp only [View.readAt_eq_ld, h1.read_unread, h2.read_unread, h3.read_unread, h5.read_unread,
    View.ld_unit_zero (S := S1x1x2560) off3, View.ld_unit_zero (S := S2560x128) off2, View.ld_unit_zero (S := S16x128) off2,
    View.ld_unit_zero (S := S256x128) off2]

end Cert.BodyValue

end
-- ==== Proof.SegSum.lean ====
/- Segment sums over the extended reals: the sum of the rows whose identifier names a segment. What a host scatter-add
   of rows into a zero array holds is such a sum, and so is the product of a 0/1 membership mask with the rows. -/
module

public import Idealize.ShloMosaic.PureOps.Ideal.Laws
public import Idealize.ShloMosaic.Lib.ValueIdx
public import Idealize.ShloMosaic.Lib.ValueIdxCoords
public import Idealize.ShloMosaic.Lib.IdealHost

@[expose] public section

noncomputable section

namespace Cert.SegSum

open Idealize.ShloMosaic Idealize.ShloMosaic.ValueIdx
open scoped BigOperators

/-! ## Rows added by identifier -/

/-- The part of row `r` that segment `s` takes: the row's value when the row's identifier is the word of `s`, else zero. -/
def part (ids : ℕ → BitVec 32) (x : ℕ → EReal) (s r : ℕ) : EReal :=
  if ids r = BitVec.ofNat 32 s then x r else 0

/-- Segment `s`'s sum over the rows `lo, …, lo + n - 1`. -/
def segSum (ids : ℕ → BitVec 32) (x : ℕ → EReal) (s lo n : ℕ) : EReal :=
  ∑ k ∈ Finset.range n, part ids x s (lo + k)

/-- Neighbouring runs of rows add up to the run that joins them. -/
theorem segSum_add (ids : ℕ → BitVec 32) (x : ℕ → EReal) (s lo n k : ℕ) :
    segSum ids x s lo (n + k) = segSum ids x s lo n + segSum ids x s (lo + n) k := by
  unfold segSum
  rw [Finset.sum_range_add]
  simp only [Nat.add_assoc]

/-- A segment's sum reads the identifiers and the values of its own rows only. -/
theorem segSum_congr {ids ids' : ℕ → BitVec 32} {x x' : ℕ → EReal} {s lo lo' n : ℕ}
    (hi : ∀ k, k < n → ids (lo + k) = ids' (lo' + k)) (hx : ∀ k, k < n → x (lo + k) = x' (lo' + k)) :
    segSum ids x s lo n = segSum ids' x' s lo' n :=
  Finset.sum_congr rfl fun k hk => by
    have hk := Finset.mem_range.mp hk
    unfold part
    rw [hi k hk, hx k hk]

/-! ## Arrays read at a row number -/

/-- The identifier array's word at row `r`, the zero word past its end. -/
def idAt {n : ℕ} (ids : (⟨1, ![n]⟩ : Shape).Idx → BitVec 32) (r : ℕ) : BitVec 32 :=
  if h : r < n then ids (ix1 ⟨r, h⟩) else 0#32

/-- Column `g` of the value array at row `r`, zero past its end. -/
def valAt {n d : ℕ} (x : (⟨2, ![n, d]⟩ : Shape).Idx → EReal) (g : Fin d) (r : ℕ) : EReal :=
  if h : r < n then x (ix2 ⟨r, h⟩ g) else 0

theorem idAt_of_lt {n r : ℕ} (ids : (⟨1, ![n]⟩ : Shape).Idx → BitVec 32) (h : r < n) : idAt ids r = ids (ix1 ⟨r, h⟩) :=
  dif_pos h

theorem valAt_of_lt {n d r : ℕ} (x : (⟨2, ![n, d]⟩ : Shape).Idx → EReal) (g : Fin d) (h : r < n) :
    valAt x g r = x (ix2 ⟨r, h⟩ g) := dif_pos h

/-- A segment's sum over the first `n` rows, with the rows numbered by `Fin n`. -/
theorem segSum_fin (ids : ℕ → BitVec 32) (x : ℕ → EReal) (s lo n : ℕ) :
    segSum ids x s lo n = ∑ k : Fin n, part ids x s (lo + k.val) :=
  Finset.sum_range fun k => part ids x s (lo + k)

/-! ## The membership mask -/

/-- A 0/1 mask element made from a comparison of words: one where the words agree, zero elsewhere. -/
theorem mask_word (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have hb : (a == b) = false := by simpa using h
    simp [IntOp.cmpi, FloatOps.sitofp, hb, h]

/-- A mask element times a value is the value where the mask is one, zero elsewhere. -/
theorem mask_mul (p : Prop) [Decidable p] (v : EReal) : (if p then (1 : EReal) else 0) * v = if p then v else 0 := by
  by_cases h : p
  · rw [if_pos h, if_pos h, one_mul]
  · rw [if_neg h, if_neg h, zero_mul]

/-! ## The host's scatter-add of rows -/

/-- A word read signed is a segment number below `2 ^ 31` exactly when it is that number's word. -/
theorem toInt_eq_iff (w : BitVec 32) (s : ℕ) (hs : s < 2 ^ 31) : w.toInt = (s : ℤ) ↔ w = BitVec.ofNat 32 s := by
  constructor
  · intro h
    apply BitVec.eq_of_toInt_eq
    rw [h, BitVec.toInt_ofNat']
    simp only [Int.bmod_def]
    omega
  · rintro rfl
    rw [BitVec.toInt_ofNat']
    simp only [Int.bmod_def]
    omega

variable {S N D : ℕ}

/-- Where update row `r`, column `g` lands: on the row its identifier names, in its own column. -/
theorem lands_iff (d : ScatterDims ⟨2, ![S, D]⟩ ⟨2, ![N, 1]⟩ ⟨2, ![N, D]⟩) (idx : IVec ⟨2, ![N, 1]⟩ 32)
    (hs0 : ∀ j, d.start j idx 0 = (idx (ix2 (j 0) 0)).toInt) (hs1 : ∀ j, d.start j idx 1 = 0)
    (hw0 : ∀ j, d.window j 0 = 0) (hw1 : ∀ j, d.window j 1 = (j 1).val)
    (hS : S ≤ 2 ^ 31) (r : Fin N) (g c : Fin D) (s : Fin S) :
    d.resultIdx? (ix2 r g) idx = some (ix2 s c) ↔ idx (ix2 r 0) = BitVec.ofNat 32 s.val ∧ g = c := by
  have hsz0 : (⟨2, ![S, D]⟩ : Shape).size 0 = S := rfl
  have hsz1 : (⟨2, ![S, D]⟩ : Shape).size 1 = D := rfl
  have hsl := s.isLt
  have hgl := g.isLt
  have e0 : d.start (ix2 r g) idx 0 + d.window (ix2 r g) 0 = (idx (ix2 r 0)).toInt := by
    rw [hs0, hw0]; simp
  have e1 : d.start (ix2 r g) idx 1 + d.window (ix2 r g) 1 = (g.val : ℤ) := by
    rw [hs1, hw1]; simp
  rw [← toInt_eq_iff _ s.val (by omega)]
  unfold ScatterDims.resultIdx?
  constructor
  · intro h
    split at h
    · rename_i hin
      have h := Option.some.inj h
      have h0 := congrArg Fin.val (congrFun h 0)
      have h1 := congrArg Fin.val (congrFun h 1)
      have p0 := (hin 0).1
      simp only [e0, e1, ix2_0, ix2_1] at h0 h1 p0
      exact ⟨by omega, Fin.ext (by omega)⟩
    · exact absurd h (by simp)
  · rintro ⟨h0, rfl⟩
    rw [dif_pos]
    · congr 1
      funext a
      apply Fin.ext
      match a with
      | ⟨0, _⟩ => show (d.start (ix2 r g) idx 0 + d.window (ix2 r g) 0).toNat = s.val; rw [e0, h0]; simp
      | ⟨1, _⟩ => show (d.start (ix2 r g) idx 1 + d.window (ix2 r g) 1).toNat = g.val; rw [e1]; simp
    · intro a
      match a with
      | ⟨0, _⟩ => show 0 ≤ d.start (ix2 r g) idx 0 + d.window (ix2 r g) 0 ∧ d.start (ix2 r g) idx 0 + d.window (ix2 r g) 0 < (S : ℤ)
                  rw [e0, h0]; omega
      | ⟨1, _⟩ => show 0 ≤ d.start (ix2 r g) idx 1 + d.window (ix2 r g) 1 ∧ d.start (ix2 r g) idx 1 + d.window (ix2 r g) 1 < (D : ℤ)
                  rw [e1]; omega

/-- The host's scatter-add of the rows of `x` by their identifiers adds, to each element of the array it updates, the
    segment's sum of the element's column. -/
theorem scatterAdd_rows (d : ScatterDims ⟨2, ![S, D]⟩ ⟨2, ![N, 1]⟩ ⟨2, ![N, D]⟩) (idx : IVec ⟨2, ![N, 1]⟩ 32)
    (hs0 : ∀ j, d.start j idx 0 = (idx (ix2 (j 0) 0)).toInt) (hs1 : ∀ j, d.start j idx 1 = 0)
    (hw0 : ∀ j, d.window j 0 = 0) (hw1 : ∀ j, d.window j 1 = (j 1).val) (hS : S ≤ 2 ^ 31)
    (z : FVec Ideal ⟨2, ![S, D]⟩ .f32) (x : FVec Ideal ⟨2, ![N, D]⟩ .f32)
    (ids : (⟨1, ![N]⟩ : Shape).Idx → BitVec 32) (hids : ∀ r, idx (ix2 r 0) = ids (ix1 r)) (s : Fin S) (c : Fin D) :
    (Host.scatterAdd d z idx x : FVec Ideal ⟨2, ![S, D]⟩ .f32) (ix2 s c)
      = z (ix2 s c) + segSum (idAt ids) (valAt x c) s.val 0 N := by
  show Ideal.hostScatterAdd d z idx x (ix2 s c) = _
  unfold Ideal.hostScatterAdd
  congr 1
  rw [Finset.sum_filter, sum_idx2, segSum_fin]
  refine Finset.sum_congr rfl fun r _ => ?_
  have hl := fun g => lands_iff d idx hs0 hs1 hw0 hw1 hS r g c s
  unfold part
  rw [Nat.zero_add, idAt_of_lt ids r.isLt, valAt_of_lt x c r.isLt, ← hids]
  by_cases h : idx (ix2 r 0) = BitVec.ofNat 32 s.val
  · rw [if_pos h, Finset.sum_eq_single c]
    · rw [if_pos ((hl c).mpr ⟨h, rfl⟩)]
    · intro g _ hg
      exact if_neg fun hh => hg ((hl g).mp hh).2
    · intro hc
      exact absurd (Finset.mem_univ c) hc
  · rw [if_neg h]
    exact Finset.sum_eq_zero fun g _ => if_neg fun hh => h ((hl g).mp hh).1

end Cert.SegSum

end
-- ==== Proof.Finish.lean ====
/- The last step of the computation, as plain mathematics: each row of the segment sums scaled to a fixed total, and the
   scaled rows contracted with the rows of a second matrix. -/
module

public import Idealize.ShloMosaic.PureOps.Ideal.Laws
public import Idealize.ShloMosaic.Lib.ValueIdx
public import Idealize.ShloMosaic.Lib.ValueIdxCoords

@[expose] public section

noncomputable section

namespace Cert.Finish

open Idealize.ShloMosaic Idealize.ShloMosaic.ValueIdx
open scoped BigOperators

variable {S D T : ℕ}

/-- What row `s` is multiplied by: a million divided by the row's total, the total kept from falling below `1e-12`. -/
def factor (raw : Fin S → Fin D → EReal) (s : Fin S) : EReal :=
  Ideal.div (Ideal.ofBits .f32 0x49742400#32) (max (Ideal.ofBits .f32 0x2B8CBCCC#32) (∑ g, raw s g))

/-- The scaled rows. -/
def scaled (raw : Fin S → Fin D → EReal) (s : Fin S) (g : Fin D) : EReal := raw s g * factor raw s

/-- The scaled rows contracted with the rows of `w`. -/
def projected (raw : Fin S → Fin D → EReal) (w : Fin T → Fin D → EReal) (s : Fin S) (t : Fin T) : EReal :=
  ∑ g, scaled raw s g * w t g

end Cert.Finish

end
-- ==== Proof.BlockValue.lean ====
/- What the kernel's body computes from one block: the product of the membership mask of the block's identifiers with the
   block's rows, the scaled rows, and the scaled rows times the weights, each read at an index. -/
module

public import proofs.«01_k».proof.Proof.Gen.KernelIdeal.Skeleton
public import proofs.«01_k».proof.Proof.Gen.KernelIdeal
public import proofs.«01_k».proof.Proof.SegSum
public import proofs.«01_k».proof.Proof.Finish
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.WordCmp

@[expose] public section

noncomputable section

namespace Cert.BlockValue

open Idealize.ShloMosaic Idealize.ShloMosaic.ValueIdx
open Cert.KernelIdeal Cert.KernelIdeal.Gen Cert.SegSum Cert.Finish
open scoped BigOperators

/-! ## Layout -/

/-- A `[1, 1, a]` array cast to `[a]` reads, at `i`, the operand at `(0, 0, i)`. -/
theorem dropUnits_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 0 0 i) :=
  shapeCast_apply x h _ _ (by
    rw [Shape.rowMajor_val_three, Shape.rowMajor_val_one]
    show (0 * 1 + 0) * a + i.val = i.val
    simp)

/-- An `[a, 1]` column broadcast to `[a, b]` reads, at `(i, j)`, the column at `i`. -/
theorem column_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i 0) :=
  broadcastTo_apply v h (ix2 i j) (ix2 i 0) fun ax => by
    match ax with
    | ⟨0, _⟩ =>
      show i.val = if a = 1 then 0 else i.val
      split
      · have := i.isLt; omega
      · rfl
    | ⟨1, _⟩ => rfl

/-- The index that a row's reduction reads at column `k`. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-! ## One block's segment sums -/

/-- Row `k` of the block goes to segment `s` exactly when its identifier is the word of `s`: the product of the mask with
    the block's rows holds, at `(s, g)`, the sum of column `g` over the block's rows of segment `s`. -/
theorem pay1_apply (v0 : Vec Ideal S1x1x2560 .i32) (v9 : Vec Ideal S2560x128 .f32) (s : Fin 256) (g : Fin 128) :
    k0_pay1 v0 v9 (ix2 s g)
      = ∑ k : Fin 2560, if v0 (ix3 0 0 k) = BitVec.ofNat 32 s.val then v9 (ix2 k g) else 0 := by
  unfold k0_pay1
  have hd : dot_S256x2560_S2560x128_S256x128_1_0_0_1_n_n = DotDims.plain 256 2560 128 := rfl
  dsimp only
  rw [hd]
  show FloatOps.matmul (F := Ideal) (DotDims.plain 256 2560 128) none _ _ _ (ix2 s g) = _
  rw [Ideal.matmul_plain_apply, constant_apply, Ideal.ofBits_zero_f32, zero_add]
  refine Finset.sum_congr rfl fun k _ => ?_
  rw [truncf_apply, truncf_apply, sitofp_apply, extui_apply]
  show (FloatOps.sitofp (F := Ideal) .f32 ((IntOp.cmpi .eq _ (broadcastTo S256x2560 _ _ (ix2 s k))).setWidth 32) : EReal) * _ = _
  rw [mask_word, mask_mul, broadcastTo_1b_ab_apply, shapeCast_a_1a_apply, dropUnits_apply]
  have hi : iota .tc S256x2560 32 [0] iota_S256x2560_d0_w32 (ix2 s k) = BitVec.ofNat 32 s.val := by
    show BitVec.ofNat 32 (0 * 256 + s.val) = _
    rw [Nat.zero_mul, Nat.zero_add]
  rw [hi]
  exact if_congr eq_comm rfl rfl

/-! ## The finish -/

/-- The scaled rows that the last point stores. -/
theorem pay3_apply (v : Vec Ideal S256x128 .f32) (s : Fin 256) (g : Fin 128) :
    k0_pay3 v (ix2 s g) = scaled (fun s g => v (ix2 s g)) s g := by
  unfold k0_pay3
  simp only [shapeCast_self]
  rw [mulf_apply, column_apply, divf_apply, maximumf_apply, broadcast_apply, broadcast_apply, shapeCast_a_a1_apply]
  unfold scaled factor
  refine congrArg (fun z => v (ix2 s g) * Ideal.div _ (max _ z))
    ((Ideal.multiReduction_add_single _ _ _ _ _ _).trans (Finset.sum_congr rfl fun k _ => ?_))
  exact congrArg v (lift_row _ s k)

/-- The product of the scaled rows with the weights that the last point stores. -/
theorem pay4_apply (v : Vec Ideal S256x128 .f32) (w : Vec Ideal S16x128 .f32) (s : Fin 256) (t : Fin 16) :
    k0_pay4 v w (ix2 s t) = projected (fun s g => v (ix2 s g)) (fun t g => w (ix2 t g)) s t := by
  unfold k0_pay4
  have hd : dot_S256x128_S16x128_S256x16_1_1_0_0_n_n = DotDims.transposedRhs 256 128 16 := rfl
  rw [hd]
  show FloatOps.matmul (F := Ideal) (DotDims.transposedRhs 256 128 16) none _ _ _ (ix2 s t) = _
  rw [Ideal.matmul_transposedRhs_apply, constant_apply, Ideal.ofBits_zero_f32, zero_add]
  exact Finset.sum_congr rfl fun g _ => by rw [pay3_apply]

end Cert.BlockValue

end
-- ==== Proof.Blocks.lean ====
/- Which part of the arguments each block holds: block `t` of the identifiers and of the rows starts at row `2560 t`, and the
   block of the weights is all of them. -/
module

public import proofs.«01_k».proof.Proof.Gen.KernelIdeal.Frame
public import proofs.«01_k».proof.Proof.SegSum
public import Idealize.ShloMosaic.Lib.Pipeline.Value
public import Idealize.ShloMosaic.Lib.Tactic
public import Idealize.ShloMosaic.Lib.Claim

@[expose] public section

noncomputable section

namespace Cert.Blocks

open Idealize.ShloMosaic Idealize.ShloMosaic.TcCoe Idealize.SL.Sem Idealize.ShloMosaic.ValueIdx
open Cert.KernelIdeal Cert.KernelIdeal.Gen Cert.SegSum

variable (m : (ℓ : Loc nD τ sig) → Buf (Elt Ideal) ℓ) (c : Dev nD)

/-- The rows. -/
abbrev xs : Vec Ideal S320000x128 .f32 := m ((c : Thread nD τ).loc main_arg0)
/-- The rows' identifiers. -/
abbrev ids : Vec Ideal S320000 .i32 := m ((c : Thread nD τ).loc main_arg1)
/-- The weights. -/
abbrev ws : Vec Ideal S16x128 .f32 := m ((c : Thread nD τ).loc main_arg2)

theorem index_ids : ∀ t : Fin grid0.N, win0_0.index t 0 = t.val ∧ win0_0.index t 1 = 0 ∧ win0_0.index t 2 = 0 := by
  decide +kernel
theorem index_rows : ∀ t : Fin grid0.N, win0_1.index t 0 = t.val ∧ win0_1.index t 1 = 0 := by decide +kernel
theorem index_weights : ∀ t : Fin grid0.N, win0_2.index t 0 = 0 ∧ win0_2.index t 1 = 0 := by decide +kernel

/-- The identifiers as the kernel takes them: 125 blocks of 2560. -/
theorem blocked_ids : V m c main_v0 = shapeCast S125x1x2560 (ids m c) shapeCasts_S320000_S125x1x2560 := by
  unfold V hostOps0
  after_results
  rfl

/-- A `[125 * 2560]` array read as 125 blocks: block `t`, place `k` is entry `2560 t + k`. -/
theorem blocked_apply {α : Type} (v : S320000.Idx → α) (t : Fin 125) (k : Fin 2560) :
    shapeCast S125x1x2560 v shapeCasts_S320000_S125x1x2560 (ix3 t 0 k) = v (ix1 ⟨2560 * t.val + k.val, by omega⟩) :=
  shapeCast_apply v _ _ _ (by
    rw [Shape.rowMajor_val_three, Shape.rowMajor_val_one]
    show 2560 * t.val + k.val = (t.val * 1 + 0) * 2560 + k.val
    omega)

/-- Block `t` of the identifiers. -/
theorem ids_block (t : Fin cfg0.N) (k : Fin 2560) :
    (iblk m c 0 t : Vec Ideal S1x1x2560 .i32) (ix3 0 0 k) = idAt (ids m c) (2560 * t.val + k.val) := by
  have ht : t.val < 125 := lt_of_lt_of_eq t.isLt (show cfg0.N = 125 from N_0)
  have hk := k.isLt
  obtain ⟨i0, i1, i2⟩ := index_ids t
  rw [idAt_of_lt _ (by omega)]
  refine Eq.trans ?_ (blocked_apply (ids m c) ⟨t.val, ht⟩ k)
  rw [← blocked_ids]
  unfold iblk
  rw [View.read_apply]
  show V m c main_v0 _ = V m c main_v0 _
  congr 1
  funext a
  apply Fin.ext
  match a with
  | ⟨0, _⟩ => show win0_0.index t 0 * 1 + 1 * 0 = t.val; rw [i0]; omega
  | ⟨1, _⟩ => show win0_0.index t 1 * 1 + 1 * 0 = 0; rw [i1]
  | ⟨2, _⟩ => show win0_0.index t 2 * 2560 + 1 * k.val = k.val; rw [i2]; omega

/-- Block `t` of the rows. -/
theorem rows_block (t : Fin cfg0.N) (k : Fin 2560) (g : Fin 128) :
    (iblk m c 1 t : Vec Ideal S2560x128 .f32) (ix2 k g) = valAt (xs m c) g (2560 * t.val + k.val) := by
  have ht : t.val < 125 := lt_of_lt_of_eq t.isLt (show cfg0.N = 125 from N_0)
  have hk := k.isLt
  obtain ⟨i0, i1⟩ := index_rows t
  rw [valAt_of_lt _ g (by omega)]
  unfold iblk
  rw [View.read_apply]
  show V m c main_arg0 _ = _
  rw [V_main_arg0]
  show xs m c _ = xs m c _
  congr 1
  funext a
  apply Fin.ext
  match a with
  | ⟨0, _⟩ => show win0_1.index t 0 * 2560 + 1 * k.val = 2560 * t.val + k.val; rw [i0]; omega
  | ⟨1, _⟩ => show win0_1.index t 1 * 128 + 1 * g.val = g.val; rw [i1]; omega

/-- The weights' block. -/
theorem weights_block (t : Fin cfg0.N) (k : Fin 16) (g : Fin 128) :
    (iblk m c 2 t : Vec Ideal S16x128 .f32) (ix2 k g) = ws m c (ix2 k g) := by
  obtain ⟨i0, i1⟩ := index_weights t
  unfold iblk
  rw [View.read_apply]
  show V m c main_arg2 _ = _
  rw [V_main_arg2]
  show ws m c _ = ws m c _
  congr 1
  funext a
  apply Fin.ext
  match a with
  | ⟨0, _⟩ => show win0_2.index t 0 * 16 + 1 * k.val = k.val; rw [i0]; omega
  | ⟨1, _⟩ => show win0_2.index t 1 * 128 + 1 * g.val = g.val; rw [i1]; omega

end Cert.Blocks

end
-- ==== Proof.KernelValue.lean ====
/- What the kernel's two result arrays hold after its run: by induction over the blocks the running sums are the segment sums
   of the rows met so far, so the last block leaves the finished results of all rows. -/
module

public import proofs.«01_k».proof.Proof.Gen.KernelIdeal.Value
public import proofs.«01_k».proof.Proof.BodyValue
public import proofs.«01_k».proof.Proof.BlockValue
public import proofs.«01_k».proof.Proof.Blocks

@[expose] public section

noncomputable section

namespace Cert.KernelValue

open Idealize.ShloMosaic Idealize.ShloMosaic.TcCoe Idealize.SL.Sem Idealize.ShloMosaic.ValueIdx
open Cert.KernelIdeal Cert.KernelIdeal.Gen Cert.SegSum Cert.Finish Cert.Blocks Cert.BlockValue Cert.BodyValue
open Idealize.ShloMosaic.Pipeline (Dat)
open scoped BigOperators

variable (m : (ℓ : Loc nD τ sig) → Buf (Elt Ideal) ℓ) (c : Dev nD)

/-- Segment `s`'s sum of column `g` over the first `n` rows. -/
abbrev upTo (n : ℕ) (s : Fin 256) (g : Fin 128) : EReal := segSum (idAt (ids m c)) (valAt (xs m c) g) s.val 0 n

/-- Block `t`'s product is the segment sums of its 2560 rows. -/
theorem block_sums (t : Fin cfg0.N) (s : Fin 256) (g : Fin 128) :
    k0_pay1 (iblk m c 0 t) (iblk m c 1 t) (ix2 s g)
      = segSum (idAt (ids m c)) (valAt (xs m c) g) s.val (2560 * t.val) 2560 := by
  rw [segSum_fin]
  refine (pay1_apply (iblk m c 0 t) (iblk m c 1 t) s g).trans (Finset.sum_congr rfl fun k _ => ?_)
  unfold part
  rw [ids_block, rows_block]

/-- Adding block `t`'s product to the sums of the rows before it gives the sums of the rows up to its end. -/
theorem step_sums (t : Fin cfg0.N) (v : Vec Ideal S256x128 .f32) (hv : ∀ s g, v (ix2 s g) = upTo m c (2560 * t.val) s g)
    (s : Fin 256) (g : Fin 128) :
    k0_pay2 (iblk m c 0 t) (iblk m c 1 t) v (ix2 s g) = upTo m c (2560 * (t.val + 1)) s g := by
  unfold k0_pay2
  simp only [shapeCast_self]
  rw [addf_apply, hv, block_sums, Nat.mul_add, Nat.mul_one]
  unfold upTo
  rw [segSum_add, Nat.zero_add]

/-- Before the last block, the buffer of the second result holds the sums of the rows met so far. -/
theorem running (n : ℕ) (hn : n < cfg0.N) (hlast : n < 124) (s : Fin 256) (g : Fin 128) :
    (outsAt0 m c n hn).2 (ix2 s g) = upTo m c (2560 * (n + 1)) s g := by
  induction n generalizing s g with
  | zero =>
    rw [show outsAt0 m c 0 hn = _ from outsAt0_A m c ⟨0, hn⟩ rfl (by dsimp only; omega) (by dsimp only; omega)]
    dsimp only
    rw [first_sums, block_sums]
    show segSum _ _ _ (2560 * 0) 2560 = segSum _ _ _ 0 (2560 * (0 + 1))
    rw [Nat.mul_zero, Nat.zero_add, Nat.mul_one]
  | succ n ih =>
    rw [show outsAt0 m c (n + 1) hn = _ from outsAt0_B m c ⟨n + 1, hn⟩ (by dsimp only; omega) (by dsimp only; omega) (by dsimp only; omega)]
    dsimp only
    rw [next_sums]
    exact step_sums m c ⟨n + 1, hn⟩ _ (fun s g => ih (Nat.lt_of_succ_lt hn) (by omega) s g) s g

/-- The last block's position. -/
abbrev last : Fin cfg0.N := ⟨124, by rw [show cfg0.N = 125 from N_0]; decide⟩

/-- What the last block's body computes before it finishes: the sums of all rows. -/
theorem all_sums (s : Fin 256) (g : Fin 128) :
    k0_pay2 (iblk m c 0 last) (iblk m c 1 last) (outsAt0 m c 123 (by rw [show cfg0.N = 125 from N_0]; decide)).2 (ix2 s g)
      = upTo m c 320000 s g :=
  step_sums m c last _ (running m c 123 _ (by decide)) s g

/-- The first result: the scaled rows contracted with the weights. -/
def product : Vec Ideal S256x16 .f32 := fun j => projected (upTo m c 320000) (fun t g => ws m c (ix2 t g)) (j 0) (j 1)
/-- The second result: the scaled rows. -/
def rows : Vec Ideal S256x128 .f32 := fun j => scaled (upTo m c 320000) (j 0) (j 1)

/-- What the last block leaves for the second result. -/
theorem last_2 : (outsAt0 m c 124 last.isLt).2 = rows m c := by
  rw [show outsAt0 m c 124 last.isLt = _ from outsAt0_C m c last (by decide) (by decide) (by decide)]
  dsimp only
  rw [last_rows]
  funext j
  rw [eq_ix2 j]
  refine (pay3_apply _ (j 0) (j 1)).trans ?_
  exact congrArg (fun raw => scaled raw (j 0) (j 1)) (funext fun s => funext fun g => all_sums m c s g)

/-- What the last block leaves for the first result. -/
theorem last_1 : (outsAt0 m c 124 last.isLt).1 = product m c := by
  rw [show outsAt0 m c 124 last.isLt = _ from outsAt0_C m c last (by decide) (by decide) (by decide)]
  dsimp only
  rw [last_product]
  funext j
  rw [eq_ix2 j]
  refine (pay4_apply _ _ (j 0) (j 1)).trans ?_
  exact congrArg₂ (fun raw w => projected raw w (j 0) (j 1)) (funext fun s => funext fun g => all_sums m c s g)
    (funext fun t => funext fun g => weights_block m c last t g)

/-! ## The result arrays: one write-back, at the last block, of the whole array -/

theorem flushed_1 (t : Fin cfg0.N) (hf : (cfg0.win 3).flush t = true) :
    (dats m 0 c).flushed 3 t = ((cfg0.win 3).blk t).view.read (Elt Ideal) (product m c) := by
  have hN : cfg0.N = 125 := N_0
  have h3 : t.val = 124 := by have := (flush0_3 t).mp hf; have := t.isLt; omega
  obtain rfl : t = last := Fin.ext h3
  show (cfg0.win 3).cut (grid0.coords last) ((dats m 0 c).after 3 last) = _
  rw [after0_3, last_1]
  have hz : (fun a => win0_3.index last a * main_v1_0.ty.shape.size a) = fun _ => 0 := funext fun a => by fin_cases a <;> decide +kernel
  exact (Memref.read_access_unit_zero (Elt Ideal) main_v1_0 hz (fun a => by rw [congrFun hz a]; simp) (product m c)).symm

theorem flushed_2 (t : Fin cfg0.N) (hf : (cfg0.win 4).flush t = true) :
    (dats m 0 c).flushed 4 t = ((cfg0.win 4).blk t).view.read (Elt Ideal) (rows m c) := by
  have hN : cfg0.N = 125 := N_0
  have h3 : t.val = 124 := by have := (flush0_4 t).mp hf; have := t.isLt; omega
  obtain rfl : t = last := Fin.ext h3
  show (cfg0.win 4).cut (grid0.coords last) ((dats m 0 c).after 4 last) = _
  rw [after0_4, last_2]
  have hz : (fun a => win0_4.index last a * main_v1_1.ty.shape.size a) = fun _ => 0 := funext fun a => by fin_cases a <;> decide +kernel
  exact (Memref.read_access_unit_zero (Elt Ideal) main_v1_1 hz (fun a => by rw [congrFun hz a]; simp) (rows m c)).symm

/-- The first result array after the run. -/
theorem final_1 : (dats m 0 c).arrAt 3 cfg0.N = product m c :=
  (dats m 0 c).arrAt_eq_of_cover 3 (product m c) (flushed_1 m c) fun i =>
    ⟨last, (flush0_3 last).mpr rfl, by
      show i ∈ ((View.whole main_v1_0).slice (win0_3.rect last)).set
      rw [View.set_slice_whole, Rect.mem_set_unit]
      intro a
      have h0 : (i 0 : Nat) < 256 := (i 0).isLt
      have h1 : (i 1 : Nat) < 16 := (i 1).isLt
      match a with
      | ⟨0, _⟩ => show win0_3.index last 0 * win0_3.size 0 ≤ (i 0 : Nat) ∧ (i 0 : Nat) < win0_3.index last 0 * win0_3.size 0 + win0_3.xsize (grid0.coords last) 0
                  rw [show win0_3.index last 0 * win0_3.size 0 = 0 from by decide +kernel, show win0_3.xsize (grid0.coords last) 0 = 256 from by decide +kernel]; omega
      | ⟨1, _⟩ => show win0_3.index last 1 * win0_3.size 1 ≤ (i 1 : Nat) ∧ (i 1 : Nat) < win0_3.index last 1 * win0_3.size 1 + win0_3.xsize (grid0.coords last) 1
                  rw [show win0_3.index last 1 * win0_3.size 1 = 0 from by decide +kernel, show win0_3.xsize (grid0.coords last) 1 = 16 from by decide +kernel]; omega⟩

/-- The second result array after the run. -/
theorem final_2 : (dats m 0 c).arrAt 4 cfg0.N = rows m c :=
  (dats m 0 c).arrAt_eq_of_cover 4 (rows m c) (flushed_2 m c) fun i =>
    ⟨last, (flush0_4 last).mpr rfl, by
      show i ∈ ((View.whole main_v1_1).slice (win0_4.rect last)).set
      rw [View.set_slice_whole, Rect.mem_set_unit]
      intro a
      have h0 : (i 0 : Nat) < 256 := (i 0).isLt
      have h1 : (i 1 : Nat) < 128 := (i 1).isLt
      match a with
      | ⟨0, _⟩ => show win0_4.index last 0 * win0_4.size 0 ≤ (i 0 : Nat) ∧ (i 0 : Nat) < win0_4.index last 0 * win0_4.size 0 + win0_4.xsize (grid0.coords last) 0
                  rw [show win0_4.index last 0 * win0_4.size 0 = 0 from by decide +kernel, show win0_4.xsize (grid0.coords last) 0 = 256 from by decide +kernel]; omega
      | ⟨1, _⟩ => show win0_4.index last 1 * win0_4.size 1 ≤ (i 1 : Nat) ∧ (i 1 : Nat) < win0_4.index last 1 * win0_4.size 1 + win0_4.xsize (grid0.coords last) 1
                  rw [show win0_4.index last 1 * win0_4.size 1 = 0 from by decide +kernel, show win0_4.xsize (grid0.coords last) 1 = 128 from by decide +kernel]; omega⟩

end Cert.KernelValue

end
-- ==== Proof.HostFinish.lean ====
/- The last step as a host program writes it: the scaled rows and their contraction, read at an index, at any extents. -/
module

public import proofs.«01_k».proof.Proof.Finish
public import Idealize.ShloMosaic.Lib.IdealHost
public import Idealize.ShloMosaic.Lib.ValueLayout
public import Idealize.ShloMosaic.Lib.Pipeline.Value
public import Idealize.ShloMosaic.Lib.StackMember

@[expose] public section

noncomputable section

namespace Cert.Finish

open Idealize.ShloMosaic Idealize.ShloMosaic.ValueIdx
open scoped BigOperators

variable {S D T : ℕ}

/-- A column placed in every column of an array. -/
theorem everyColumn_apply {α : Type} (h : (⟨2, ![S, 1]⟩ : Shape).BroadcastsInDim ⟨2, ![S, D]⟩ ![0, 1])
    (v : (⟨2, ![S, 1]⟩ : Shape).Idx → α) (s : Fin S) (g : Fin D) :
    broadcastInDim ⟨2, ![S, D]⟩ ![0, 1] h v (ix2 s g) = v (ix2 s 0) :=
  broadcastInDim_apply _ h v (ix2 s g) (ix2 s 0) fun a => by
    match a with
    | ⟨0, _⟩ =>
      show s.val = if S = 1 then 0 else s.val
      split
      · have := s.isLt; omega
      · rfl
    | ⟨1, _⟩ => rfl

/-- A vector stood up as a column. -/
theorem asColumn_apply {α : Type} (h : (⟨1, ![S]⟩ : Shape).BroadcastsInDim ⟨2, ![S, 1]⟩ ![0])
    (v : (⟨1, ![S]⟩ : Shape).Idx → α) (s : Fin S) (u : Fin 1) :
    broadcastInDim ⟨2, ![S, 1]⟩ ![0] h v (ix2 s u) = v (ix1 s) :=
  broadcastInDim_apply _ h v (ix2 s u) (ix1 s) fun a => by
    match a with
    | ⟨0, _⟩ =>
      show s.val = if S = 1 then 0 else s.val
      split
      · have := s.isLt; omega
      · rfl

/-- The host's sum of each row from zero. -/
theorem hostRowSum_apply (hr : (⟨2, ![S, D]⟩ : Shape).ReducesTo [1] ⟨1, ![S]⟩) (hr' : (⟨2, ![S, D]⟩ : Shape).Reduces [1] ⟨1, ![S]⟩)
    (hu : 0 < (⟨0, ![]⟩ : Shape).numel) (y : FVec Ideal ⟨2, ![S, D]⟩ .f32) (s : Fin S) :
    Host.reduceAdd y (constant (F := Ideal) ⟨0, ![]⟩ .f32 0x00000000#32) hr hu (ix1 s) = ∑ g : Fin D, y (ix2 s g) := by
  rw [hostReduceAdd_apply, Ideal.hostReduceAdd_single hr hr', constant_apply, Ideal.ofBits_zero_f32, zero_add]
  refine Finset.sum_congr rfl fun k _ => congrArg y ?_
  funext a
  match a with
  | ⟨0, _⟩ => rfl
  | ⟨1, _⟩ => rfl

/-- The host's scaled rows. -/
theorem hostScaled_apply (hr : (⟨2, ![S, D]⟩ : Shape).ReducesTo [1] ⟨1, ![S]⟩) (hr' : (⟨2, ![S, D]⟩ : Shape).Reduces [1] ⟨1, ![S]⟩)
    (hu : 0 < (⟨0, ![]⟩ : Shape).numel)
    (h0 : (⟨0, ![]⟩ : Shape).BroadcastsInDim ⟨2, ![S, 1]⟩ ![])
    (h1 : (⟨1, ![S]⟩ : Shape).BroadcastsInDim ⟨2, ![S, 1]⟩ ![0])
    (h2 : (⟨2, ![S, 1]⟩ : Shape).BroadcastsInDim ⟨2, ![S, D]⟩ ![0, 1])
    (y : FVec Ideal ⟨2, ![S, D]⟩ .f32) (s : Fin S) (g : Fin D) :
    mulf y (broadcastInDim ⟨2, ![S, D]⟩ ![0, 1] h2
      (Host.divf (F := Ideal) (φ := .f32) (broadcastInDim ⟨2, ![S, 1]⟩ ![] h0 (constant ⟨0, ![]⟩ .f32 0x49742400#32))
        (maximumf (broadcastInDim ⟨2, ![S, 1]⟩ ![] h0 (id (constant ⟨0, ![]⟩ .f32 0x2B8CBCCC#32)))
          (broadcastInDim ⟨2, ![S, 1]⟩ ![0] h1 (Host.reduceAdd y (constant ⟨0, ![]⟩ .f32 0x00000000#32) hr hu))))) (ix2 s g)
      = scaled (fun s g => y (ix2 s g)) s g := by
  rw [mulf_apply, everyColumn_apply, hostDivf_apply, maximumf_apply, asColumn_apply, hostRowSum_apply hr hr' hu,
    broadcastInDim_scalar_apply, broadcastInDim_scalar_apply]
  rfl

/-- The host's contraction of an array that holds the scaled rows with the rows of the weights. -/
theorem hostProjected_apply (ht : (⟨2, ![T, D]⟩ : Shape).Transposes [1, 0] ⟨2, ![D, T]⟩) (raw : Fin S → Fin D → EReal)
    (r : FVec Ideal ⟨2, ![S, D]⟩ .f32) (hr : ∀ s g, r (ix2 s g) = scaled raw s g) (w : FVec Ideal ⟨2, ![T, D]⟩ .f32)
    (s : Fin S) (t : Fin T) :
    Host.dotGeneral (DotDims.plain S D T) none r (transpose ⟨2, ![D, T]⟩ [1, 0] w ht) (ix2 s t)
      = projected raw (fun t g => w (ix2 t g)) s t := by
  rw [StackMember.dotGeneral_plain_apply]
  exact Finset.sum_congr rfl fun g _ => by rw [hr, transpose_ix2_apply]

end Cert.Finish

end
-- ==== Proof.RefValue.lean ====
/- What the reference computes, read at an index: the segment sums of the rows, scaled, and the scaled rows contracted with
   the weights. -/
module

public import proofs.«01_k».proof.Proof.Gen.ReferenceIdeal.Run
public import proofs.«01_k».proof.Proof.SegSum
public import proofs.«01_k».proof.Proof.HostFinish

@[expose] public section

noncomputable section

namespace Cert.RefValue

open Idealize.ShloMosaic Idealize.ShloMosaic.ValueIdx
open Cert.ReferenceIdeal Cert.ReferenceIdeal.Gen Cert.SegSum Cert.Finish
open scoped BigOperators

/-- The array that the reference scatters into, with the rows added. -/
abbrev sums (x : Vec Ideal S320000x128 .f32) (ids : Vec Ideal S320000 .i32) : Vec Ideal S256x128 .f32 :=
  Host.scatterAdd (F := Ideal) (φ := .f32) scatter_S256x128_S320000x1_S320000x128_1_0_0_1
    (broadcastInDim S256x128 ![] bcast_S_S256x128 (constant S_ .f32 0x00000000#32))
    (broadcastInDim S320000x1 ![0] bcast_S320000_S320000x1_0 ids) x

/-- The reference's first operation holds the segment sums. -/
theorem sums_apply (x : Vec Ideal S320000x128 .f32) (ids : Vec Ideal S320000 .i32) (s : Fin 256) (g : Fin 128) :
    sums x ids (ix2 s g) = segSum (idAt ids) (valAt x g) s.val 0 320000 := by
  refine (scatterAdd_rows scatter_S256x128_S320000x1_S320000x128_1_0_0_1 _ (fun j => ?_) (fun j => ?_) (fun j => ?_) (fun j => ?_)
    (by omega) _ x ids (fun r => ?_) s g).trans ?_
  · show BitVec.toInt _ = _
    refine congrArg (fun i => BitVec.toInt (broadcastInDim S320000x1 ![0] bcast_S320000_S320000x1_0 ids i)) ?_
    funext a
    match a with
    | ⟨0, _⟩ => rfl
    | ⟨1, _⟩ => rfl
  · rfl
  · rfl
  · rfl
  · exact asColumn_apply _ ids r 0
  · rw [broadcastInDim_scalar_apply, constant_apply, Ideal.ofBits_zero_f32, zero_add]

/-- The scaled rows that the reference returns. -/
abbrev rows (y : Vec Ideal S256x128 .f32) : Vec Ideal S256x128 .f32 :=
  mulf (F := Ideal) (φ := .f32) y (broadcastInDim S256x128 ![0, 1] bcast_S256x1_S256x128_0_1
    (Host.divf (F := Ideal) (φ := .f32) (broadcastInDim S256x1 ![] bcast_S_S256x1 (constant S_ .f32 0x49742400#32))
      (maximumf (broadcastInDim S256x1 ![] bcast_S_S256x1 (id (constant S_ .f32 0x2B8CBCCC#32)))
        (broadcastInDim S256x1 ![0] bcast_S256_S256x1_0
          (Host.reduceAdd y (constant S_ .f32 0x00000000#32) reducesTo_S256x128_S256_d1 h_S_)))))

/-- The reference's second result is the scaled rows of the segment sums. -/
theorem rows_apply (x : Vec Ideal S320000x128 .f32) (ids : Vec Ideal S320000 .i32) (s : Fin 256) (g : Fin 128) :
    rows (sums x ids) (ix2 s g) = scaled (fun s g => segSum (idAt ids) (valAt x g) s.val 0 320000) s g := by
  refine (hostScaled_apply _ (by decide) _ _ _ _ (sums x ids) s g).trans ?_
  exact congrArg (fun raw => scaled raw s g) (funext fun s => funext fun g => sums_apply x ids s g)

/-- The reference's first result is the contraction of the scaled rows of the segment sums with the weights. -/
theorem project_apply (x : Vec Ideal S320000x128 .f32) (ids : Vec Ideal S320000 .i32) (w : Vec Ideal S16x128 .f32)
    (s : Fin 256) (t : Fin 16) :
    Host.dotGeneral (F := Ideal) (φ₁ := .f32) (φ₂ := .f32) dot_S256x128_S128x16_S256x16_1_0_0_1_n_n none (rows (sums x ids))
        (transpose S128x16 [1, 0] w transposes_S16x128_S128x16_1_0) (ix2 s t)
      = projected (fun s g => segSum (idAt ids) (valAt x g) s.val 0 320000) (fun t g => w (ix2 t g)) s t :=
  hostProjected_apply _ _ (rows (sums x ids)) (rows_apply x ids) w s t

end Cert.RefValue

end
-- ==== Proof.Equation.lean ====
/- The kernel's two results are the reference's. -/
module

public import proofs.«01_k».proof.Defs
public import proofs.«01_k».proof.Proof.KernelValue
public import proofs.«01_k».proof.Proof.RefValue
public import Idealize.ShloMosaic.Lib.Claim

@[expose] public section

noncomputable section

namespace Cert.Equation

open Idealize.ShloMosaic Idealize.ShloMosaic.TcCoe Idealize.SL.Sem Idealize.ShloMosaic.ValueIdx
open Cert.KernelIdeal (nD τ sig)

variable (m : (ℓ : Loc nD τ sig) → Buf (Elt Ideal) ℓ) (c : Dev nD)

/-- The second results agree: the scaled rows of the segment sums. -/
theorem rows_eq : RefValue.rows (RefValue.sums (Blocks.xs m c) (Blocks.ids m c)) = KernelValue.rows m c := by
  funext j
  rw [eq_ix2 j]
  exact RefValue.rows_apply _ _ (j 0) (j 1)

/-- The first results agree: the scaled rows contracted with the weights. -/
theorem product_eq :
    Host.dotGeneral (F := Ideal) (φ₁ := .f32) (φ₂ := .f32) Cert.ReferenceIdeal.dot_S256x128_S128x16_S256x16_1_0_0_1_n_n none
        (RefValue.rows (RefValue.sums (Blocks.xs m c) (Blocks.ids m c)))
        (transpose Cert.ReferenceIdeal.S128x16 [1, 0] (Blocks.ws m c) Cert.ReferenceIdeal.Gen.transposes_S16x128_S128x16_1_0)
      = KernelValue.product m c := by
  funext j
  rw [eq_ix2 j]
  exact RefValue.project_apply _ _ _ (j 0) (j 1)

/-- From memories that agree on the arguments, the kernel and the reference both run and end with equal results. -/
theorem equal : Cert.algebraic_KernelIdeal_ReferenceIdeal := by
  intro m g m' g' _ hag
  refine ⟨KernelValue.product m, KernelValue.rows m, ?_, ?_⟩
  · refine (θ_run _ _ _).mono (fun r h c => ?_) (Cert.KernelIdeal.Value.run_blocks m g)
    obtain ⟨h1, h2, h3⟩ := h c
    exact ⟨h1.trans (KernelValue.final_1 m c), h2.trans (KernelValue.final_2 m c), h3⟩
  · refine (θ_run _ _ _).mono (fun r h c => ?_) (Cert.ReferenceIdeal.Value.run m' g')
    obtain ⟨h1, h2, h3⟩ := h c
    obtain ⟨e0, e1, e2⟩ := hag c
    refine ⟨h1.trans ?_, h2.trans ?_, h3⟩
    · rw [e0, e1, e2]
      exact product_eq m c
    · rw [e0, e1]
      exact rows_eq m c

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments as they were; a host program declares no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Every claim of this certificate: the three runs with their arguments kept, the idealization, and the equality of both
    results with the reference's. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial,
  Cert.Equation.equal⟩

end Cert.Proof

end
